-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclamped [hPre_unclamped : Cert.Pre_unclamped.Facts] (m : (ℓ : Loc Cert.KernelIdeal.nD Cert.KernelIdeal.τ Cert.KernelIdeal.sig) → Buf (Elt Ideal) ℓ) : Prop :=
  ∀ c : Dev Cert.KernelIdeal.nD,
    (Cert.Pre_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclamped [hPre_unclamped : Cert.Pre_unclamped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unclamped [hKernelIdeal : Cert.KernelIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclamped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unclamped [hReferenceIdeal : Cert.ReferenceIdeal.Facts] [hPre_unclamped : Cert.Pre_unclamped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclamped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unclamped [hKernelIdeal : Cert.KernelIdeal.Facts] [hReferenceIdeal : Cert.ReferenceIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclamped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unclamped : Cert.Pre_unclamped.Facts),
    quiescent_Kernel (hKernel := hKernel)
    ∧ quiescent_KernelIdeal (hKernelIdeal := hKernelIdeal)
    ∧ quiescent_KernelIdeal_pre_unclamped (hKernelIdeal := hKernelIdeal) (hPre_unclamped := hPre_unclamped)
    ∧ quiescent_ReferenceIdeal (hReferenceIdeal := hReferenceIdeal)
    ∧ quiescent_ReferenceIdeal_pre_unclamped (hReferenceIdeal := hReferenceIdeal) (hPre_unclamped := hPre_unclamped)
    ∧ preserves_Kernel_KernelIdeal
    ∧ algebraic_KernelIdeal_ReferenceIdeal_pre_unclamped (hKernelIdeal := hKernelIdeal) (hReferenceIdeal := hReferenceIdeal) (hPre_unclamped := hPre_unclamped)
-- ==== Pre_unclamped.lean ====
abbrev S100000x80 : Shape := ⟨2, ![100000, 80]⟩
abbrev S100000 : Shape := ⟨1, ![100000]⟩
abbrev S_ : Shape := ⟨0, ![]⟩

class Facts : Prop where
  bcast_S_S100000x80 : S_.BroadcastsInDim S100000x80 (![] : Fin 0 → Fin S100000x80.rank)
  reducesTo_S100000x80_S_d0_1 : S100000x80.ReducesTo [0, 1] S_
  h_S_ : 0 < S_.numel

variable [Facts]

def fn {F : FTy → Type} [FloatOps F] (main_arg0 : FVec F S100000x80 .f32) (main_arg1 : IVec S100000 32) (main_arg2 : FVec F S100000 .f32) : IVec S_ 1 :=
  let main_cst : FVec F S_ .f32 := constant S_ .f32 0xC1F00000#32
  let main_v0 : FVec F S100000x80 .f32 := broadcastInDim S100000x80 ![] bcast_S_S100000x80 main_cst
  let main_v1 : IVec S100000x80 1 := cmpf .oge main_arg0 main_v0
  let main_c : IVec S_ 1 := constantI S_ 1 1#1
  let main_v2 : IVec S_ 1 := (fun x v => Host.reduce IntOp.andi x v reducesTo_S100000x80_S_d0_1 h_S_) main_v1 main_c
  main_v2
-- ==== Kernel.lean ====
abbrev S100000x80 : Shape := ⟨2, ![100000, 80]⟩
abbrev S100000 : Shape := ⟨1, ![100000]⟩
abbrev S80x100000 : Shape := ⟨2, ![80, 100000]⟩
abbrev S5x1x1 : Shape := ⟨3, ![5, 1, 1]⟩
abbrev S8x100000 : Shape := ⟨2, ![8, 100000]⟩
abbrev S1x1x1 : Shape := ⟨3, ![1, 1, 1]⟩
abbrev S8x512 : Shape := ⟨2, ![8, 512]⟩
abbrev S512 : Shape := ⟨1, ![512]⟩
abbrev S1x512 : Shape := ⟨2, ![1, 512]⟩
abbrev S8x160 : Shape := ⟨2, ![8, 160]⟩
abbrev S160 : Shape := ⟨1, ![160]⟩
abbrev S1x160 : Shape := ⟨2, ![1, 160]⟩
abbrev S1x8x512 : Shape := ⟨3, ![1, 8, 512]⟩
abbrev S1 : Shape := ⟨1, ![1]⟩
abbrev S1x8x160 : Shape := ⟨3, ![1, 8, 160]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S100000x80, .f32⟩
  | .hbm, ⟨1, _⟩ => ⟨S100000, .i32⟩
  | .hbm, ⟨2, _⟩ => ⟨S100000, .f32⟩
  | .hbm, ⟨3, _⟩ => ⟨S80x100000, .f32⟩
  | .hbm, ⟨4, _⟩ => ⟨S5x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S100000, .i32⟩
  | .local _ .vmem, ⟨5, _⟩ => ⟨S100000, .f32⟩
  | .local _ .vmem, ⟨6, _⟩ => ⟨S1x1x1, .f32⟩
  | .local _ .vmem, ⟨7, _⟩ => ⟨S1x1x1, .f32⟩
  | _, _ => ⟨S100000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S100000x80 : Shape := ⟨2, ![100000, 80]⟩
abbrev S100000 : Shape := ⟨1, ![100000]⟩
abbrev S_ : Shape := ⟨0, ![]⟩
abbrev S100000x1 : Shape := ⟨2, ![100000, 1]⟩
abbrev S100000x1x1 : Shape := ⟨3, ![100000, 1, 1]⟩
abbrev S1 : Shape := ⟨1, ![1]⟩
abbrev S1x1x1 : Shape := ⟨3, ![1, 1, 1]⟩
abbrev S80 : Shape := ⟨1, ![80]⟩
abbrev S1x80 : Shape := ⟨2, ![1, 80]⟩

abbrev nBuf : Space → Nat
  | .hbm => 110
  | .vmem => 0
  | .smem => 0
  | _ => 0

abbrev bufTy : (tb : Table) → Fin (tcTables nBuf tb) → BufTy
  | .hbm, ⟨0, _⟩ => ⟨S100000x80, .f32⟩
  | .hbm, ⟨1, _⟩ => ⟨S100000, .i32⟩
  | .hbm, ⟨2, _⟩ => ⟨S100000, .f32⟩
  | .hbm, ⟨3, _⟩ => ⟨S100000x80, .f32⟩
  | .hbm, ⟨4, _⟩ => ⟨S100000x80, .f32⟩
  | .hbm, ⟨5, _⟩ => ⟨S_, .f32⟩
  | .hbm, ⟨6, _⟩ => ⟨S100000x80, .f32⟩
  | .hbm, ⟨7, _⟩ => ⟨S100000x80, .f32⟩
  | .hbm, ⟨8, _⟩ => ⟨S_, .f32⟩
  | .hbm, ⟨9, _⟩ => ⟨S100000x80, .f32⟩
  | .hbm, ⟨10, _⟩ => ⟨S100000x80, .f32⟩
  | .hbm, ⟨11, _⟩ => ⟨S_, .f32⟩
  | .hbm, ⟨12, _⟩ => ⟨S100000x80, .f32⟩
  | .hbm, ⟨13, _⟩ => ⟨S_, .f32⟩
  | .hbm, ⟨14, _⟩ => ⟨S100000x80, .f32⟩
  | .hbm, ⟨15, _⟩ => ⟨S100000x80, .f32⟩
  | .hbm, ⟨16, _⟩ => ⟨S100000x80, .f32⟩
  | .hbm, ⟨17, _⟩ => ⟨S100000x80, .f32⟩
  | .hbm, ⟨18, _⟩ => ⟨S100000x80, .f32⟩
  | .hbm, ⟨19, _⟩ => ⟨S100000x80, .f32⟩
  | .hbm, ⟨20, _⟩ => ⟨S100000x80, .f32⟩
  | .hbm, ⟨21, _⟩ => ⟨S100000x80, .f32⟩
  | .hbm, ⟨22, _⟩ => ⟨S100000x80, .f32⟩
  | .hbm, ⟨23, _⟩ => ⟨S_, .f32⟩
  | .hbm, ⟨24, _⟩ => ⟨S100000x80, .f32⟩
  | .hbm, ⟨25, _⟩ => ⟨S100000x80, .f32⟩
  | .hbm, ⟨26, _⟩ => ⟨S100000x80, .f32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S100000, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S_, .i32⟩
  | .hbm, ⟨44, _⟩ => ⟨S100000x1, .i32⟩
  | .hbm, ⟨45, _⟩ => ⟨S100000x1, .i1⟩
  | .hbm, ⟨46, _⟩ => ⟨S_, .i32⟩
  | .hbm, ⟨47, _⟩ => ⟨S100000x1, .i32⟩
  | .hbm, ⟨48, _⟩ => ⟨S100000x1, .i32⟩
  | .hbm, ⟨49, _⟩ => ⟨S100000x1, .i32⟩
  | .hbm, ⟨50, _⟩ => ⟨S100000x1x1, .i32⟩
  | .hbm, ⟨51, _⟩ => ⟨S1, .i32⟩
  | .hbm, ⟨52, _⟩ => ⟨S_, .i32⟩
  | .hbm, ⟨53, _⟩ => ⟨S100000x1x1, .i32⟩
  | .hbm, ⟨54, _⟩ => ⟨S100000x1x1, .i1⟩
  | .hbm, ⟨55, _⟩ => ⟨S1x1x1, .i32⟩
  | .hbm, ⟨56, _⟩ => ⟨S100000x1x1, .i32⟩
  | .hbm, ⟨57, _⟩ => ⟨S100000x1x1, .i1⟩
  | .hbm, ⟨58, _⟩ => ⟨S100000x1x1, .i1⟩
  | .hbm, ⟨59, _⟩ => ⟨S_, .i1⟩
  | .hbm, ⟨60, _⟩ => ⟨S100000x1, .i1⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000, .f32⟩
  | .hbm, ⟨90, _⟩ => ⟨S80, .i32⟩
  | .hbm, ⟨91, _⟩ => ⟨S1x80, .i32⟩
  | .hbm, ⟨92, _⟩ => ⟨S100000x1, .i32⟩
  | .hbm, ⟨93, _⟩ => ⟨S100000x80, .i32⟩
  | .hbm, ⟨94, _⟩ => ⟨S100000x80, .i32⟩
  | .hbm, ⟨95, _⟩ => ⟨S100000x80, .i1⟩
  | .hbm, ⟨96, _⟩ => ⟨S100000x1, .i1⟩
  | .hbm, ⟨97, _⟩ => ⟨S100000x80, .i1⟩
  | .hbm, ⟨98, _⟩ => ⟨S100000x80, .i1⟩
  | .hbm, ⟨99, _⟩ => ⟨S100000x1, .f32⟩
  | .hbm, ⟨100, _⟩ => ⟨S100000x80, .f32⟩
  | .hbm, ⟨101, _⟩ => ⟨S100000x80, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S100000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_7 : Ref sig .tc := ⟨.hbm, 68, rfl⟩
abbrev main_v30 : Ref sig .tc := ⟨.hbm, 69, rfl⟩
abbrev main_v31 : Ref sig .tc := ⟨.hbm, 70, rfl⟩
abbrev main_cst_8 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_9 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_10 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_call2_v0 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_cst_12 : Ref sig .tc := ⟨.hbm, 104, rfl⟩
abbrev main_v60 : Ref sig .tc := ⟨.hbm, 105, rfl⟩
abbrev main_cst_13 : Ref sig .tc := ⟨.hbm, 106, rfl⟩
abbrev main_v61 : Ref sig .tc := ⟨.hbm, 107, rfl⟩
abbrev main_cst_14 : Ref sig .tc := ⟨.hbm, 108, rfl⟩
abbrev main_v62 : Ref sig .tc := ⟨.hbm, 109, rfl⟩

abbrev nD : Nat := 1
abbrev τ : Topo := Topo.v7x

variable {F : FTy → Type} [FloatOps F]
-- ==== Proof.Frames.lean ====
/- The frames of the three programs: each one runs to its end without a fault, leaves its argument arrays as it found
   them, and ends with every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof.Frames

open Idealize.ShloMosaic Idealize.SL.Sem

/-- The kernel as printed runs, keeps its arguments and ends quiescent. -/
theorem kernel : Cert.quiescent_Kernel := fun m ρ _ => Cert.Kernel.Gen.frame m ρ

/-- The idealized kernel runs, keeps its arguments and ends quiescent. -/
theorem kernelIdeal : Cert.quiescent_KernelIdeal := fun m ρ _ => Cert.KernelIdeal.Gen.frame m ρ

/-- The idealized reference runs, keeps its arguments and ends quiescent: it is host operations only and has no semaphore. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Frames

end
-- ==== Proof.Block.lean ====
/- What one grid point computes: the value it leaves in its one-element output block, written with one definition of the
   loss per element and one accumulator over the 195 column chunks. -/
module

public import proofs.«01_k».proof.Proof.Gen.KernelIdeal.Frame

@[expose] public section

noncomputable section

namespace Cert.Proof.Block

open Idealize.ShloMosaic Idealize.SL.Sem Cert.KernelIdeal Cert.KernelIdeal.Gen

variable {F : FTy → Type} [FloatOps F]

/-- The loss of every element of a tile: `x` the logits, `t` the targets, `ci` the class ids, `y` the scores, all
    spread over the tile. -/
def lossv {s : Shape} (x : FVec F s .f32) (t ci : IVec s 32) (y : FVec F s .f32) : FVec F s .f32 :=
  let xm := maximumf x (broadcast s (Scalar.ofBits .f32 0xC1F00000#32))
  let den := addf (broadcast s (Scalar.ofBits .f32 0x3F800000#32)) (exp (subf (broadcast s (Scalar.ofBits .f32 0x00000000#32)) xm))
  let sig := reciprocal true den
  let sp := addf xm (log den)
  select (cmpi .eq t ci) (mulf (subf sp (mulf x y)) (mulf (subf y sig) (subf y sig))) (mulf (mulf sp sig) sig)

/-- The columns `512 * k` up to `512 * (k + 1)` of a slab lie in the slab. -/
theorem inbX (k : ℕ) (h : k < 195) : ∀ a, (![0, 512 * k] : Fin 2 → ℕ) a + S8x512.size a ≤ S8x100000.size a := by
  intro a; fin_cases a <;> simp [S8x512, S8x100000] <;> omega

/-- The entries `512 * k` up to `512 * (k + 1)` of a row lie in the row. -/
theorem inbT (k : ℕ) (h : k < 195) : ∀ a, (![512 * k] : Fin 1 → ℕ) a + S512.size a ≤ S100000.size a := by
  intro a; fin_cases a; simp [S512, S100000]; omega

/-- Chunk `k` of a slab. -/
def rx (k : ℕ) (h : k < 195) : Rect S8x100000 := Rect.unit (s := S8x100000) ![0, 512 * k] S8x512.size (inbX k h)
/-- Chunk `k` of a row. -/
def rt (k : ℕ) (h : k < 195) : Rect S100000 := Rect.unit (s := S100000) ![512 * k] S512.size (inbT k h)

/-- The loss of chunk `k`. -/
def chunk (ci : IVec S8x512 32) (x : Vec F S8x100000 .f32) (t : Vec F S100000 .i32) (y : Vec F S100000 .f32) (k : ℕ) (h : k < 195) :
    FVec F S8x512 .f32 :=
  lossv (shapeCast S8x512 (View.ld x (rx k h)) shapeCasts_S8x512_S8x512)
    (broadcastTo S8x512 (shapeCast S1x512 (View.ld t (rt k h)) shapeCasts_S512_S1x512) broadcasts_S1x512_S8x512) ci
    (broadcastTo S8x512 (shapeCast S1x512 (View.ld y (rt k h)) shapeCasts_S512_S1x512) broadcasts_S1x512_S8x512)

/-- The accumulator after `k` chunks. -/
def acc (ci : IVec S8x512 32) (x : Vec F S8x100000 .f32) (t : Vec F S100000 .i32) (y : Vec F S100000 .f32) : (k : ℕ) → k ≤ 195 → FVec F S8x512 .f32
  | 0, _ => broadcast S8x512 (Scalar.ofBits .f32 0x00000000#32)
  | k + 1, h => addf (acc ci x t y k (Nat.le_of_succ_le h)) (chunk ci x t y k h)

/-- The loss of the last 160 columns. -/
def tail (ci : IVec S8x160 32) (x : Vec F S8x100000 .f32) (t : Vec F S100000 .i32) (y : Vec F S100000 .f32) : FVec F S8x160 .f32 :=
  lossv (shapeCast S8x160 (View.ld x r0_390) shapeCasts_S8x160_S8x160)
    (broadcastTo S8x160 (shapeCast S1x160 (View.ld t r0_391) shapeCasts_S160_S1x160) broadcasts_S1x160_S8x160) ci
    (broadcastTo S8x160 (shapeCast S1x160 (View.ld y r0_391) shapeCasts_S160_S1x160) broadcasts_S1x160_S8x160)

/-- The class ids of a slab whose first class is `b`, over a tile `s`. -/
def ids8x512 (b : BitVec 32) : IVec S8x512 32 := addi (iota .tc S8x512 32 [0] iota_S8x512_d0_w32) (broadcast S8x512 b)
/-- The class index of every element of a tail. -/
def ids8x160 (b : BitVec 32) : IVec S8x160 32 := addi (iota .tc S8x160 32 [0] iota_S8x160_d0_w32) (broadcast S8x160 b)

/-- The sum over one slab whose first class is `b`. -/
def slab (b : BitVec 32) (x : Vec F S8x100000 .f32) (t : Vec F S100000 .i32) (y : Vec F S100000 .f32) : F .f32 :=
  Scalar.addf
    (extractAt ![0, 0, 0] (shapeCast S1x1x1 (multiReduction .add [1, 2] S1 (shapeCast S1x8x512 (acc (ids8x512 b) x t y 195 le_rfl) shapeCasts_S8x512_S1x8x512) 0x00000000#32 reduces_S1x8x512_S1 (.inl rfl) rfl) shapeCasts_S1_S1x1x1) inpos_S1x1x1_p0_0_0)
    (extractAt ![0, 0, 0] (shapeCast S1x1x1 (multiReduction .add [1, 2] S1 (shapeCast S1x8x160 (tail (ids8x160 b) x t y) shapeCasts_S8x160_S1x8x160) 0x00000000#32 reduces_S1x8x160_S1 (.inl rfl) rfl) shapeCasts_S1_S1x1x1) inpos_S1x1x1_p0_0_0)

set_option maxRecDepth 1000000 in
set_option maxHeartbeats 0 in
/-- A grid point leaves the sum of its two slabs in its block. -/
theorem out_eq (i : grid0.Coords) (x0 x1 : Vec F S8x100000 .f32) (x2 : Vec F S100000 .i32) (x3 : Vec F S100000 .f32) :
    out0_4 i x0 x1 x2 x3 = View.canon [⟨r0_392, broadcast S1x1x1
      (Scalar.addf (slab (Scalar.muli (BitVec.ofNat 32 (i 0).val) 8#32) x0 x2 x3)
        (slab (Scalar.addi 40#32 (Scalar.muli (BitVec.ofNat 32 (i 0).val) 8#32)) x1 x2 x3))⟩] := rfl

end Cert.Proof.Block

end
-- ==== Proof.SlabSum.lean ====
/- The sum over one slab of eight classes at exact arithmetic: the chunks, their accumulator and the last columns
   together are one sum over the slab's eight rows and all its columns. -/
module

public import proofs.«01_k».proof.Proof.Block
public import Idealize.ShloMosaic.Lib.Pointwise

@[expose] public section

noncomputable section

namespace Cert.Proof.Block

open Idealize.ShloMosaic Idealize.SL.Sem Cert.KernelIdeal Cert.KernelIdeal.Gen

/-- The kernel's loss of one element where the class is the target: logit `x`, score `y`. -/
def posK (x y : EReal) : EReal :=
  let xm := max x (Ideal.ofBits .f32 0xC1F00000#32)
  let den := 1 + Ideal.exp (0 - xm)
  (xm + Ideal.log den - x * y) * ((y - Ideal.div 1 den) * (y - Ideal.div 1 den))

/-- The kernel's loss of one element where the class is not the target. -/
def negK (x : EReal) : EReal :=
  let xm := max x (Ideal.ofBits .f32 0xC1F00000#32)
  let den := 1 + Ideal.exp (0 - xm)
  (xm + Ideal.log den) * Ideal.div 1 den * Ideal.div 1 den

/-- The kernel's loss of one element: logit `x`, target `t`, class `ci`, score `y`. -/
def eltK (x : EReal) (t ci : BitVec 32) (y : EReal) : EReal := if t = ci then posK x y else negK x

/-- A choice on the equality of two words. -/
theorem select_eq (a b : BitVec 32) (u v : EReal) : Scalar.select (IntOp.cmpi .eq a b) u v = if a = b then u else v := by
  by_cases h : a = b
  · simp [IntOp.cmpi, Scalar.select, h]
  · have e : (a == b) = false := beq_eq_false_iff_ne.mpr h
    simp [IntOp.cmpi, Scalar.select, h, e]

/-- The loss of a tile, read at an element. -/
theorem lossv_apply {s : Shape} (x : FVec Ideal s .f32) (t ci : IVec s 32) (y : FVec Ideal s .f32) (j : s.Idx) :
    lossv x t ci y j = eltK (x j) (t j) (ci j) (y j) := by
  have e : lossv x t ci y j = Scalar.select (IntOp.cmpi .eq (t j) (ci j)) (posK (x j) (y j)) (negK (x j)) := by
    unfold lossv posK negK
    pointwise
  rw [e]
  exact select_eq _ _ _ _

/-- Chunk `k`, read at an element: the loss of column `512 * k + q`. -/
theorem chunk_apply (b : BitVec 32) (x : Vec Ideal S8x100000 .f32) (t : Vec Ideal S100000 .i32) (y : Vec Ideal S100000 .f32) (k : ℕ) (h : k < 195)
    (r : Fin 8) (q : Fin 512) :
    chunk (ids8x512 b) x t y k h (ix2 r q) = eltK (x (ix2 r ⟨512 * k + q, by omega⟩)) (t (ix1 ⟨512 * k + q, by omega⟩)) (BitVec.ofNat 32 r + b) (y (ix1 ⟨512 * k + q, by omega⟩)) := by
  unfold chunk
  rw [lossv_apply]
  pointwise [ids8x512, rx, rt]
  rfl

/-- The last columns, read at an element. -/
theorem tail_apply (b : BitVec 32) (x : Vec Ideal S8x100000 .f32) (t : Vec Ideal S100000 .i32) (y : Vec Ideal S100000 .f32) (r : Fin 8) (q : Fin 160) :
    tail (ids8x160 b) x t y (ix2 r q) = eltK (x (ix2 r ⟨99840 + q, by omega⟩)) (t (ix1 ⟨99840 + q, by omega⟩)) (BitVec.ofNat 32 r + b) (y (ix1 ⟨99840 + q, by omega⟩)) := by
  unfold tail
  rw [lossv_apply]
  pointwise [ids8x160]
  rfl

/-- The accumulator after `k` chunks, read at an element: the sum of the first `k` chunks there. -/
theorem acc_apply (b : BitVec 32) (x : Vec Ideal S8x100000 .f32) (t : Vec Ideal S100000 .i32) (y : Vec Ideal S100000 .f32) (k : ℕ) (h : k ≤ 195)
    (r : Fin 8) (q : Fin 512) :
    acc (ids8x512 b) x t y k h (ix2 r q) = ∑ l : Fin k, chunk (ids8x512 b) x t y l (lt_of_lt_of_le l.2 h) (ix2 r q) := by
  induction k with
  | zero => unfold acc; pointwise; simp
  | succ k ih => unfold acc; rw [Fin.sum_univ_castSucc]; exact congrArg₂ (· + ·) (ih _) rfl

/-- Position `q` of block `l`, of `A` blocks of `B`, is below `A * B`. -/
theorem block_lt {A B : ℕ} (l : Fin A) (q : Fin B) : B * l + q < A * B :=
  calc B * l + q < B * l + B := Nat.add_lt_add_left q.2 _
    _ = B * (l + 1) := (Nat.mul_succ B l).symm
    _ ≤ B * A := Nat.mul_le_mul_left B l.2
    _ = A * B := Nat.mul_comm B A

/-- A sum over `A * B + C` columns is the sum over `A` blocks of `B` columns and over the last `C`. -/
theorem sum_blocks (A B C : ℕ) (f : Fin (A * B + C) → EReal) :
    ∑ n, f n = (∑ q : Fin B, ∑ l : Fin A, f ⟨B * l + q, Nat.lt_add_right C (block_lt l q)⟩) + ∑ q : Fin C, f (Fin.natAdd (A * B) q) := by
  rw [Fin.sum_univ_add, Finset.sum_comm, ← Fintype.sum_prod_type', ← Equiv.sum_comp (finProdFinEquiv (m := A) (n := B))]
  congr 1
  exact Finset.sum_congr rfl fun p _ => congrArg f (Fin.ext (Nat.add_comm _ _))

/-- A sum over all columns is the sum over the 195 chunks of 512 columns and over the last 160. -/
theorem sum_columns (f : Fin 100000 → EReal) :
    ∑ n, f n = (∑ q : Fin 512, ∑ l : Fin 195, f ⟨512 * l + q, by omega⟩) + ∑ q : Fin 160, f ⟨99840 + q, by omega⟩ :=
  sum_blocks 195 512 160 f

/-- The sum over one slab whose first class is `b`: the loss of every element of the slab's eight rows. -/
theorem slab_apply (b : BitVec 32) (x : Vec Ideal S8x100000 .f32) (t : Vec Ideal S100000 .i32) (y : Vec Ideal S100000 .f32) :
    slab b x t y = ∑ r : Fin 8, ∑ n : Fin 100000, eltK (x (ix2 r n)) (t (ix1 n)) (BitVec.ofNat 32 r + b) (y (ix1 n)) := by
  unfold slab
  pointwise
  rw [← Finset.sum_add_distrib]
  refine Finset.sum_congr rfl fun r _ => ?_
  rw [sum_columns fun n => eltK (x (ix2 r n)) (t (ix1 n)) (BitVec.ofNat 32 r + b) (y (ix1 n))]
  congr 1
  · exact Finset.sum_congr rfl fun q _ => (acc_apply b x t y 195 _ r q).trans (Finset.sum_congr rfl fun l _ => chunk_apply b x t y l l.2 r q)
  · exact Finset.sum_congr rfl fun q _ => tail_apply b x t y r q

end Cert.Proof.Block

end
-- ==== Proof.KernelArray.lean ====
/- The kernel's output array after the run: element `i` is the sum that grid point `i` computes. -/
module

public import proofs.«01_k».proof.Proof.SlabSum
public import Idealize.ShloMosaic.Lib.Pipeline.ValueKit

@[expose] public section

noncomputable section

namespace Cert.Proof.KernelArray

open Idealize.ShloMosaic Idealize.ShloMosaic.TcCoe Idealize.SL.Sem Cert.KernelIdeal Cert.KernelIdeal.Gen Cert.Proof.Block

variable (m : (ℓ : Loc nD τ sig) → Buf (Elt Ideal) ℓ)

/-- The loss of class `k` summed over the rows, with the kernel's formula: `X` the logits, `T` the targets, `Y` the scores. -/
def classSum (X : Vec Ideal S100000x80 .f32) (T : Vec Ideal S100000 .i32) (Y : Vec Ideal S100000 .f32) (k : Fin 80) : EReal :=
  ∑ n : Fin 100000, eltK (X (ix2 n k)) (T (ix1 n)) (BitVec.ofNat 32 k) (Y (ix1 n))

/-- What grid point `i` computes: the losses of its two slabs of eight classes. -/
def pointSum (X : Vec Ideal S100000x80 .f32) (T : Vec Ideal S100000 .i32) (Y : Vec Ideal S100000 .f32) (i : Fin 5) : EReal :=
  (∑ r : Fin 8, classSum X T Y ⟨8 * i + r, by omega⟩) + ∑ r : Fin 8, classSum X T Y ⟨40 + 8 * i + r, by omega⟩

/-- The block each window is at, at grid point `t`. -/
theorem idx : ∀ t : Fin cfg0.N, win0_0.index t = ![t.val, 0] ∧ win0_1.index t = ![t.val + 5, 0] ∧ win0_2.index t = ![0] ∧ win0_3.index t = ![0] ∧ win0_4.index t = ![t.val, 0, 0] :=
  (by decide +kernel : ∀ t : Fin grid0.N, _)

/-- The one coordinate of grid point `t` is `t`. -/
theorem coord : ∀ t : Fin cfg0.N, (grid0.coords t 0).val = t.val :=
  (by decide +kernel : ∀ t : Fin grid0.N, _)

/-- The grid has five points. -/
theorem point_lt : ∀ t : Fin cfg0.N, t.val < 5 :=
  (by decide +kernel : ∀ t : Fin grid0.N, _)

/-- The region finds the logits transposed. -/
theorem V_main_v0 (c : Dev nD) (k : Fin 80) (n : Fin 100000) :
    (V m c main_v0 : Vec Ideal S80x100000 .f32) (ix2 k n) = m ((c : Thread nD τ).loc main_arg0) (ix2 n k) := by
  have e : V m c main_v0 = transpose S80x100000 [1, 0] (m ((c : Thread nD τ).loc main_arg0)) transposes_S100000x80_S80x100000_1_0 := by
    show StableHlo.after hostOps0 (fun b => m (c, b)) ((Proc.tc).devRef main_v0) = _
    after_results
  rw [e]
  pointwise

/-- The first slab of grid point `t`: rows are the classes from `8 * t` on. -/
theorem iblk0 (c : Dev nD) (t : Fin cfg0.N) (r : Fin 8) (n : Fin 100000) :
    iblk m c 0 t (ix2 r n) = m ((c : Thread nD τ).loc main_arg0) (ix2 n ⟨8 * t.val + r, by have := point_lt t; omega⟩) := by
  rw [← V_main_v0 m]
  have := point_lt t
  blk_ext [iblk, idx t]

/-- The second slab of grid point `t`: rows are the classes from `40 + 8 * t` on. -/
theorem iblk1 (c : Dev nD) (t : Fin cfg0.N) (r : Fin 8) (n : Fin 100000) :
    iblk m c 1 t (ix2 r n) = m ((c : Thread nD τ).loc main_arg0) (ix2 n ⟨40 + 8 * t.val + r, by have := point_lt t; omega⟩) := by
  rw [← V_main_v0 m]
  have := point_lt t
  blk_ext [iblk, idx t]

/-- Every grid point reads all targets. -/
theorem iblk2 (c : Dev nD) (t : Fin cfg0.N) : iblk m c 2 t = m ((c : Thread nD τ).loc main_arg1) := by
  blk_ext! [iblk, V, idx t]

/-- Every grid point reads all scores. -/
theorem iblk3 (c : Dev nD) (t : Fin cfg0.N) : iblk m c 3 t = m ((c : Thread nD τ).loc main_arg2) := by
  blk_ext! [iblk, V, idx t]

/-- The class id the kernel computes for row `r` of the first slab. -/
theorem id0 (i r : ℕ) : BitVec.ofNat 32 r + Scalar.muli (BitVec.ofNat 32 i) 8#32 = BitVec.ofNat 32 (8 * i + r) := by
  show BitVec.ofNat 32 r + BitVec.ofNat 32 i * BitVec.ofNat 32 8 = _
  rw [← BitVec.ofNat_mul, ← BitVec.ofNat_add]; congr 1; ring

/-- The class id the kernel computes for row `r` of the second slab. -/
theorem id1 (i r : ℕ) : BitVec.ofNat 32 r + Scalar.addi 40#32 (Scalar.muli (BitVec.ofNat 32 i) 8#32) = BitVec.ofNat 32 (40 + 8 * i + r) := by
  show BitVec.ofNat 32 r + (BitVec.ofNat 32 40 + BitVec.ofNat 32 i * BitVec.ofNat 32 8) = _
  rw [← BitVec.ofNat_mul, ← BitVec.ofNat_add, ← BitVec.ofNat_add]; congr 1; ring

/-- The output array after the run: element `i` is what grid point `i` computes. -/
theorem final (c : Dev nD) : (dats m 0 c).arrAt 4 cfg0.N = fun j => pointSum (m ((c : Thread nD τ).loc main_arg0)) (m ((c : Thread nD τ).loc main_arg1)) (m ((c : Thread nD τ).loc main_arg2)) (j 0) := by
  refine (dats m 0 c).arrAt_eq_of_covers 4 _ (by decide +kernel) fun t hf y => ?_
  blk_simp
  rw [after0_4, out_eq, View.canon_unit_zero (by decide), slab_apply, slab_apply, iblk2, iblk3]
  have e : ((win0_4.blk t).view.emb y 0 : Fin 5) = ⟨t.val, point_lt t⟩ := by
    apply Fin.ext
    blk_simp [idx t]
  rw [e]
  unfold pointSum classSum
  simp only [iblk0, iblk1, coord, id0, id1]
  rfl

end Cert.Proof.KernelArray

end
-- ==== Proof.KernelRun.lean ====
/- The kernel's run: its result is the mean of the grid points' sums, and its arguments are kept. -/
module

public import proofs.«01_k».proof.Proof.KernelArray
public import Idealize.ShloMosaic.Lib.Pointwise

@[expose] public section

noncomputable section

namespace Cert.Proof.KernelRun

open Idealize.ShloMosaic Idealize.ShloMosaic.TcCoe Idealize.SL.Sem Cert.KernelIdeal Cert.KernelIdeal.Gen Cert.Proof.Block Cert.Proof.KernelArray

variable (m : (ℓ : Loc nD τ sig) → Buf (Elt Ideal) ℓ) (ρ : Dev nD → PrngReg)

/-- What the host computes from the grid points' sums: their sum from zero, over the number of rows, times one. -/
def mean (f : FVec Ideal S5x1x1 .f32) : FVec Ideal S_ .f32 :=
  mulf (constant S_ FTy.f32 0x3F800000#32) (Host.divf (Host.reduceAdd f (constant S_ FTy.f32 0x00000000#32) reducesTo_S5x1x1_S_d0_1_2 h_S_) (constant S_ FTy.f32 0x47C35000#32))

/-- The grid points' sums as an array, from the arguments. -/
def points (X : Vec Ideal S100000x80 .f32) (T : Vec Ideal S100000 .i32) (Y : Vec Ideal S100000 .f32) : FVec Ideal S5x1x1 .f32 :=
  fun j => pointSum X T Y (j 0)

/-- The host's operations after the region leave the mean of the output array in the result. -/
theorem result (c : Dev nD) :
    (Pipeline.afterTail₀ cfgs (dats m) 0 (V0 m) [hostOps1] c main_v4 : FVec Ideal S_ .f32)
      = mean (points (m ((c : Thread nD τ).loc main_arg0)) (m ((c : Thread nD τ).loc main_arg1)) (m ((c : Thread nD τ).loc main_arg2))) := by
  unfold Pipeline.afterTail₀
  show StableHlo.after hostOps1 _ (Proc.tc.devRef main_v4) = _
  after_results
  exact congrArg mean ((Pipeline.withArrays_arr_shared spec0 c (V0 m c) (fun w => (dats m 0 c).arrAt w cfg0.N)
    ((dats m 0 c).arrAt_sharedIn launch₀0.sharedIn (V0 m c) (A_eq m c) cfg0.N) 4).trans (final m c))

/-- The kernel's run: it ends with the mean of the grid points' sums as its result, its arguments kept. -/
theorem run : θ_run defs (onTc (τ := τ) (main (F := Ideal))) ⟨m, fun _ => 0, ρ⟩ (fun r => ∀ c : Dev nD,
      r.2.mem ((c.tc : Thread nD τ).loc main_v4)
        = mean (points (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v4 (Pipeline.mem_restRefs_of main_v4 (by decide) (by decide))).trans (result m c),
    ((h c).2 main_arg0 (Pipeline.mem_restRefs_of main_arg0 (by decide) (by decide))).trans (W_main_arg0 m (dats m) c),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c)))⟩) (run_main m ρ)

/-- A sum over the 80 classes is the sum over the grid points of their two slabs of eight classes. -/
theorem sum_classes (f : Fin 80 → EReal) :
    ∑ k, f k = ∑ i : Fin 5, ((∑ r : Fin 8, f ⟨8 * i + r, by omega⟩) + ∑ r : Fin 8, f ⟨40 + (8 * i + r), by omega⟩) := by
  have h : ∀ g : Fin 40 → EReal, ∑ k, g k = ∑ i : Fin 5, ∑ r : Fin 8, g ⟨8 * i + r, by omega⟩ := fun g => by
    rw [← Fintype.sum_prod_type', ← Equiv.sum_comp (finProdFinEquiv (m := 5) (n := 8))]
    exact Finset.sum_congr rfl fun p _ => congrArg g (Fin.ext (Nat.add_comm _ _))
  rw [Finset.sum_add_distrib, ← h fun k => f ⟨k, by omega⟩, ← h fun k => f ⟨40 + k, by omega⟩]
  exact Fin.sum_univ_add (a := 40) (b := 40) f

/-- The mean is the sum over the classes of their losses, over the number of rows, times one. -/
theorem mean_points (X : Vec Ideal S100000x80 .f32) (T : Vec Ideal S100000 .i32) (Y : Vec Ideal S100000 .f32) (j : S_.Idx) :
    mean (points X T Y) j = Ideal.div (∑ k : Fin 80, classSum X T Y k) (Ideal.ofBits .f32 0x47C35000#32) := by
  rw [sum_classes]
  unfold mean points
  pointwise
  simp only [Fin.sum_univ_one, pointSum, Nat.add_assoc]

end Cert.Proof.KernelRun

end
-- ==== Proof.RefPick.lean ====
/- The logit the reference takes along a row: where the target is a class, the logit of that class. -/
module

public import proofs.«01_k».proof.Proof.Gen.ReferenceIdeal.Read
public import Idealize.ShloMosaic.Lib.Pointwise
public import Idealize.ShloMosaic.Lib.ReduceAll
public import Idealize.ShloMosaic.Lib.WordCmp

@[expose] public section

noncomputable section

namespace Cert.Proof.RefPick

open Idealize.ShloMosaic Idealize.ShloMosaic.TcCoe Idealize.SL.Sem Cert.ReferenceIdeal Cert.ReferenceIdeal.Gen Cert.ReferenceIdeal.Read

variable (X : Vec Ideal S100000x80 .f32) (T : Vec Ideal S100000 .i32)

/-- The gather's dimension numbers: the row is a batch axis, the class is looked up. -/
abbrev pick : GatherDims S100000x80 S100000x1x1 S100000x1 := gather_S100000x80_S100000x1x1_S100000x1_n_1_0_0_1_2_11

/-- A gather of one element per row reads, in row `n`, the element its index word names. -/
theorem gather_apply (idx : IVec S100000x1x1 32) (n : Fin 100000) (k : Fin 80) (h : idx (ix3 n 0 0) = BitVec.ofNat 32 k) :
    Host.gather pick X idx (ix2 n 0) = X (ix2 n k) := by
  unfold Host.gather
  refine congrArg X (funext fun a => Fin.ext ?_)
  match a with
  | ⟨0, _⟩ =>
    show pick.start (ix2 n 0) idx 0 + pick.batchCoord (ix2 n 0) 0 + pick.offCoord (ix2 n 0) 0 = n.val
    rw [pick.start_batching _ _ _ (by simp [gather_S100000x80_S100000x1x1_S100000x1_n_1_0_0_1_2_11]), pick.offCoord_eq_zero _ _ (fun hk => ((pick.mem_sKept 0).1 hk).2 (by simp [gather_S100000x80_S100000x1x1_S100000x1_n_1_0_0_1_2_11]))]
    unfold GatherDims.batchCoord
    rw [dif_pos (by simp [gather_S100000x80_S100000x1x1_S100000x1_n_1_0_0_1_2_11])]
    rw [Nat.zero_add, Nat.add_zero]
    rfl
  | ⟨1, _⟩ =>
    show pick.start (ix2 n 0) idx 1 + pick.batchCoord (ix2 n 0) 1 + pick.offCoord (ix2 n 0) 1 = k.val
    have hm : (1 : Fin 2) ∈ pick.startIndexMap := by simp [gather_S100000x80_S100000x1x1_S100000x1_n_1_0_0_1_2_11]
    have e : pick.siIdx (ix2 n 0) ⟨pick.startIndexMap.idxOf 1, List.idxOf_lt_length_iff.2 hm⟩ = ix3 n 0 0 := by
      funext b
      match b with
      | ⟨0, _⟩ => rfl
      | ⟨1, _⟩ => rfl
      | ⟨2, _⟩ => rfl
    rw [pick.batchCoord_eq_zero _ _ (by simp [gather_S100000x80_S100000x1x1_S100000x1_n_1_0_0_1_2_11]), pick.offCoord_eq_zero _ _ (fun hk => ((pick.mem_sKept 1).1 hk).1 (by simp [gather_S100000x80_S100000x1x1_S100000x1_n_1_0_0_1_2_11]))]
    unfold GatherDims.start
    rw [dif_pos hm, e, h]
    exact (by decide +kernel : ∀ k : Fin 80, min (BitVec.ofNat 32 k).toInt.toNat (80 - 1) + 0 + 0 = k.val) k

/-- Clipping a target that is a class leaves it. -/
theorem clip_apply (n : Fin 100000) (k : Fin 80) (h : T (ix1 n) = BitVec.ofNat 32 k) : val_main_v24 (F := Ideal) T (ix1 n) = BitVec.ofNat 32 k := by
  pointwise [val_main_v24, val_main_call0_v4, val_main_call0_v2, val_main_call0_v1]
  rw [h]
  exact (by decide +kernel : ∀ k : Fin 80, IntOp.minsi 79#32 (IntOp.maxsi 0#32 (BitVec.ofNat 32 k)) = BitVec.ofNat 32 k) k

/-- The index words are the clipped targets: a class is not negative, so it is not wrapped. -/
theorem index_apply (n : Fin 100000) (k : Fin 80) (h : T (ix1 n) = BitVec.ofNat 32 k) : val_main_call1_v5 (F := Ideal) T (ix3 n 0 0) = BitVec.ofNat 32 k := by
  pointwise [val_main_call1_v5, val_main_call1_v4, val_main_call1_v3, val_main_call1_v2, val_main_call1_v1, val_main_call1_v0, val_main_v25]
  rw [clip_apply T n k h]
  exact (by decide +kernel : ∀ k : Fin 80, Scalar.select (IntOp.cmpi .slt (BitVec.ofNat 32 k) 0#32) (IntOp.addi (BitVec.ofNat 32 k) 80#32) (BitVec.ofNat 32 k) = BitVec.ofNat 32 k) k

/-- The index word of a class is inside the row, so the reference fills nothing in. -/
theorem inside_apply (n : Fin 100000) (k : Fin 80) (h : T (ix1 n) = BitVec.ofNat 32 k) : val_main_call1_v12 (F := Ideal) T (ix2 n 0) = 1#1 := by
  unfold val_main_call1_v12
  rw [Host.reduce_eq_foldl]
  refine IntOp.foldl_andi_one _ _ _ rfl fun j hj => ?_
  have hd : reducesTo_S100000x1x1_S100000x1_d2.drop j = ix2 n 0 := of_decide_eq_true (List.mem_filter.1 hj).2
  have e : j = ix3 n 0 0 := by
    funext a
    match a with
    | ⟨0, _⟩ => exact congrFun hd 0
    | ⟨1, _⟩ => exact Subsingleton.elim (α := Fin 1) _ _
    | ⟨2, _⟩ => exact Subsingleton.elim (α := Fin 1) _ _
  rw [e]
  pointwise [val_main_call1_v11, val_main_call1_v10, val_main_call1_v9, val_main_call1_v8, val_main_call1_v7, val_main_call1_v6]
  rw [index_apply T n k h]
  exact (by decide +kernel : ∀ k : Fin 80, IntOp.andi (IntOp.cmpi .sge (BitVec.ofNat 32 k) 0#32) (IntOp.cmpi .sle (BitVec.ofNat 32 k) 79#32) = 1#1) k

/-- Where the target is class `k`, the logit taken along row `n` is the logit of class `k`. -/
theorem taken_apply (n : Fin 100000) (k : Fin 80) (h : T (ix1 n) = BitVec.ofNat 32 k) : val_main_v27 (F := Ideal) X T (ix1 n) = X (ix2 n k) := by
  pointwise [val_main_v27, val_main_v26]
  rw [inside_apply T n k h]
  exact gather_apply X _ n k (index_apply T n k h)

end Cert.Proof.RefPick

end
-- ==== Proof.RefValue.lean ====
/- What the reference computes: the sum over the rows and classes of the losses of all elements, each with the reference's formula, over the number of rows. -/
module

public import proofs.«01_k».proof.Proof.RefPick

@[expose] public section

noncomputable section

namespace Cert.Proof.RefValue

open Idealize.ShloMosaic Idealize.ShloMosaic.TcCoe Idealize.SL.Sem Cert.ReferenceIdeal Cert.ReferenceIdeal.Gen Cert.ReferenceIdeal.Read Cert.Proof.RefPick

/-- The reference's binary cross entropy of logit `x` at label `y`. -/
def bce (x y : EReal) : EReal := max x 0 - x * y + Ideal.log1p (Ideal.exp (-max x (-x)))

/-- The reference's loss of one element whose class is its row's target: logit `x`, score `y`. -/
def posR (x y : EReal) : EReal :=
  let d := y - Ideal.div 1 (1 + Ideal.exp (-x))
  bce x y * Ideal.pow (max d (-d)) (Ideal.ofBits .f32 0x40000000#32)

/-- The reference's loss of one element whose class is not the target. -/
def negR (x : EReal) : EReal := bce x 0 * Ideal.pow (Ideal.div 1 (1 + Ideal.exp (-x))) (Ideal.ofBits .f32 0x40000000#32)

/-- The reference's loss of one element: logit `x`, target `t`, class `ci`, score `y`. -/
def eltR (x : EReal) (t ci : BitVec 32) (y : EReal) : EReal := if t = ci then posR x y else negR x

variable (X : Vec Ideal S100000x80 .f32) (T : Vec Ideal S100000 .i32) (Y : Vec Ideal S100000 .f32)

/-- The loss of an element that is not its row's target. -/
theorem neg_apply (n : Fin 100000) (k : Fin 80) : val_main_v18 (F := Ideal) X (ix2 n k) = negR (X (ix2 n k)) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The loss of row `n`'s target, from the logit taken along the row. -/
theorem pos_apply (n : Fin 100000) : val_main_v47 (F := Ideal) X T Y (ix1 n) = posR (val_main_v27 (F := Ideal) X T (ix1 n)) (Y (ix1 n)) := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_7, val_main_cst_8, val_main_cst_9, val_main_cst_10]
  rfl

/-- A proposition whose bit is set holds. -/
theorem of_bit {p : Prop} [Decidable p] (h : BitVec.ofBool (decide p) = 1#1) : p := by
  by_contra c
  rw [decide_eq_false c] at h
  exact absurd h (by decide)

/-- A target clipped to the classes that is class `k`, and was in range, is class `k`. -/
theorem clip_eq (t u : BitVec 32) (h0 : (0#32).toInt ≤ t.toInt) (h1 : t.toInt < (80#32).toInt) (h : u = IntOp.minsi 79#32 (IntOp.maxsi 0#32 t)) : t = u := by
  have e1 : (80#32).toInt = 80 := by decide
  have e2 : (79#32).toInt = 79 := by decide
  have a : ¬ t.toInt < (0#32).toInt := by omega
  have b : ¬ (79#32).toInt < t.toInt := by omega
  rw [h]
  simp only [IntOp.minsi, IntOp.maxsi, BitVec.slt, decide_eq_true_eq, if_neg a, if_neg b]

/-- Class `k` is marked in row `n` exactly when it is the row's target. -/
theorem hit_iff (n : Fin 100000) (k : Fin 80) : val_main_v56 (F := Ideal) T (ix2 n k) = 1#1 ↔ T (ix1 n) = BitVec.ofNat 32 k := by
  pointwise [val_main_v56, val_main_v55, val_main_v54, val_main_v53, val_main_v52, val_main_v51, val_main_v50, val_main_v49, val_main_v48, val_main_v23, val_main_v22, val_main_v21, val_main_v20, val_main_v19, val_main_v24, val_main_call0_v4, val_main_call0_v3, val_main_call0_v2, val_main_call0_v1, val_main_call0_v0, val_main_c, val_main_c_4, val_main_c_5, val_main_c_6]
  constructor
  · intro h
    obtain ⟨h, h'⟩ := IntOp.andi_eq_one.1 h
    obtain ⟨h0, h1⟩ := IntOp.andi_eq_one.1 h'
    exact clip_eq _ _ (of_bit ((WordCmp.cmpi_sge_eq _ _).symm.trans h0)) (of_bit ((WordCmp.cmpi_slt_eq _ _).symm.trans h1)) (of_bit ((WordCmp.cmpi_eq_eq _ _).symm.trans h))
  · intro h
    rw [h]
    exact (by decide +kernel : ∀ k : Fin 80, IntOp.andi (IntOp.cmpi .eq (BitVec.ofNat 32 k) (IntOp.minsi 79#32 (IntOp.maxsi 0#32 (BitVec.ofNat 32 k)))) (IntOp.andi (IntOp.cmpi .sge (BitVec.ofNat 32 k) 0#32) (IntOp.cmpi .slt (BitVec.ofNat 32 k) 80#32)) = 1#1) k

/-- The loss of element `(n, k)`. -/
theorem elt_apply (n : Fin 100000) (k : Fin 80) : val_main_v58 (F := Ideal) X T Y (ix2 n k) = eltR (X (ix2 n k)) (T (ix1 n)) (BitVec.ofNat 32 k) (Y (ix1 n)) := by
  unfold eltR
  pointwise [val_main_v58, val_main_call2_v0, val_main_v57]
  by_cases h : T (ix1 n) = BitVec.ofNat 32 k
  · rw [WordCmp.select_of_eq_one ((hit_iff T n k).2 h), if_pos h, pos_apply, taken_apply X T n k h]
  · rw [WordCmp.select_of_eq_zero (ValueIdx.eq_zero_of_ne_one fun c => h ((hit_iff T n k).1 c)), if_neg h, neg_apply]

/-- The reference's result: the sum of all losses, over the number of rows. -/
theorem result_apply (j : S_.Idx) : val_main_v62 (F := Ideal) X T Y j
    = Ideal.div (∑ n : Fin 100000, ∑ k : Fin 80, eltR (X (ix2 n k)) (T (ix1 n)) (BitVec.ofNat 32 k) (Y (ix1 n))) (Ideal.ofBits .f32 0x47C35000#32) := by
  pointwise [val_main_v62, val_main_v61, val_main_v60, val_main_v59, val_main_cst_11, val_main_cst_12, val_main_cst_13, val_main_cst_14]
  simp only [elt_apply]

end Cert.Proof.RefValue

end
-- ==== Proof.Loss.lean ====
/- One element: the kernel's loss is the reference's loss, where the logit is not below the kernel's clamp. -/
module

public import proofs.«01_k».proof.Proof.SlabSum
public import proofs.«01_k».proof.Proof.RefValue

@[expose] public section

noncomputable section

namespace Cert.Proof.Loss

open Idealize.ShloMosaic Cert.Proof.Block Cert.Proof.RefValue

/-- The bits of two are two. -/
theorem two : Ideal.ofBits .f32 0x40000000#32 = ((2 : ℝ) : EReal) := by
  simp [Ideal.ofBits, Ideal.ieee, -EReal.coe_mul]; norm_num

/-- The bits of minus thirty are minus thirty. -/
theorem clamp : Ideal.ofBits .f32 0xC1F00000#32 = ((-30 : ℝ) : EReal) := by
  simp [Ideal.ofBits, Ideal.ieee, -EReal.coe_mul]; norm_num

/-- The greater of two real numbers, among the extended reals. -/
theorem coe_max (a b : ℝ) : ((max a b : ℝ) : EReal) = max (a : EReal) b := EReal.coe_strictMono.monotone.map_max

/-- The softplus of a real number: `x + log (1 + exp (-x)) = max x 0 + log (1 + exp (-|x|))`. -/
theorem softplus_real (x : ℝ) : x + Real.log (1 + Real.exp (-x)) = max x 0 + Real.log (1 + Real.exp (-max x (-x))) := by
  rcases le_total 0 x with h | h
  · rw [max_eq_left h, max_eq_left (by linarith : -x ≤ x)]
  · rw [max_eq_right h, max_eq_right (by linarith : x ≤ -x), neg_neg, zero_add]
    have e : 1 + Real.exp (-x) = Real.exp (-x) * (1 + Real.exp x) := by rw [mul_add, mul_one, ← Real.exp_add, neg_add_cancel, Real.exp_zero, add_comm]
    rw [e, Real.log_mul (Real.exp_pos _).ne' (by positivity), Real.log_exp]
    ring

/-- The kernel's `log` of a real number above zero is the real logarithm. -/
theorem log_pos (r : ℝ) (h : 0 < r) : Ideal.log r = (Real.log r : EReal) := by
  rw [Ideal.log_coe, if_neg h.not_ge]

/-- The softplus of a logit that is a real number or infinity. -/
theorem softplus (x : EReal) (h : x ≠ ⊥) : x + Ideal.log (1 + Ideal.exp (-x)) = max x 0 + Ideal.log1p (Ideal.exp (-max x (-x))) := by
  induction x with
  | bot => exact absurd rfl h
  | top => simp [Ideal.log1p]
  | coe r =>
    have e (s : ℝ) : (1 : EReal) + Ideal.exp (-(s : EReal)) = ((1 + Real.exp (-s) : ℝ) : EReal) := by
      rw [← EReal.coe_neg, Ideal.exp_coe]; rfl
    have a : max (r : EReal) (-r) = ((max r (-r) : ℝ) : EReal) := by rw [← EReal.coe_neg, ← coe_max]
    have b : max (r : EReal) 0 = ((max r 0 : ℝ) : EReal) := by rw [← EReal.coe_zero, ← coe_max]
    unfold Ideal.log1p
    rw [a, b, e, e, log_pos _ (by positivity), log_pos _ (by positivity), ← EReal.coe_add, ← EReal.coe_add, softplus_real]

/-- The logistic of a logit is a real number not below zero. -/
theorem logistic_real (x : EReal) : ∃ s : ℝ, 0 ≤ s ∧ Ideal.div 1 (1 + Ideal.exp (-x)) = s := by
  show ∃ s : ℝ, 0 ≤ s ∧ Ideal.logistic x = s
  induction x with
  | bot => exact ⟨0, le_rfl, by simp⟩
  | top => exact ⟨1, zero_le_one, by simp⟩
  | coe r => exact ⟨_, by positivity, Ideal.logistic_coe r⟩

/-- The power two of an absolute value is the square, at infinities too. -/
theorem pow_abs (d : EReal) : Ideal.pow (max d (-d)) (Ideal.ofBits .f32 0x40000000#32) = d * d := by
  rw [two]
  induction d with
  | bot => simp
  | top => simp
  | coe r =>
    have a : max (r : EReal) (-r) = ((|r| : ℝ) : EReal) := by rw [← EReal.coe_neg, ← coe_max]; rfl
    rw [a, Ideal.pow_coe_coe, ← EReal.coe_mul]
    congr 1
    show |r| ^ (2 : ℝ) = r * r
    rw [Real.rpow_two, sq_abs, sq]

/-- The power two of a real number not below zero is its square. -/
theorem pow_real (s : ℝ) (h : 0 ≤ s) : Ideal.pow s (Ideal.ofBits .f32 0x40000000#32) = (s : EReal) * s := by
  rw [← pow_abs, ← EReal.coe_neg, ← coe_max, max_eq_left (by linarith)]

/-- The kernel's loss at the target is the reference's. -/
theorem pos_eq (x y : EReal) (h : Ideal.ofBits .f32 0xC1F00000#32 ≤ x) : posK x y = posR x y := by
  have hx : x ≠ ⊥ := by rintro rfl; rw [clamp] at h; exact absurd h (by simp)
  unfold posK posR bce
  simp only [max_eq_left h, zero_sub]
  rw [pow_abs, softplus x hx, sub_eq_add_neg _ (x * y), sub_eq_add_neg _ (x * y), add_right_comm]

/-- The kernel's loss off the target is the reference's. -/
theorem neg_eq (x : EReal) (h : Ideal.ofBits .f32 0xC1F00000#32 ≤ x) : negK x = negR x := by
  have hx : x ≠ ⊥ := by rintro rfl; rw [clamp] at h; exact absurd h (by simp)
  obtain ⟨s, hs, e⟩ := logistic_real x
  unfold negK negR bce
  simp only [max_eq_left h, zero_sub]
  rw [e, pow_real s hs, softplus x hx, mul_zero, sub_zero, mul_assoc]

/-- The kernel's loss of an element is the reference's. -/
theorem elt_eq (x : EReal) (t ci : BitVec 32) (y : EReal) (h : Ideal.ofBits .f32 0xC1F00000#32 ≤ x) : eltK x t ci y = eltR x t ci y := by
  unfold eltK eltR
  rw [pos_eq x y h, neg_eq x h]

end Cert.Proof.Loss

end
-- ==== Proof.Equation.lean ====
/- The equation: where no logit is below the clamp, the kernel's result is the reference's. -/
module

public import proofs.«01_k».proof.Defs
public import proofs.«01_k».proof.Proof.KernelRun
public import proofs.«01_k».proof.Proof.Loss
public import proofs.«01_k».proof.Proof.Gen.Pre_unclamped

@[expose] public section

noncomputable section

namespace Cert.Proof.Equation

open Idealize.ShloMosaic Idealize.ShloMosaic.TcCoe Idealize.SL.Sem Cert.Proof.Block Cert.Proof.KernelArray Cert.Proof.KernelRun Cert.Proof.RefValue Cert.Proof.Loss

variable (X : FVec Ideal KernelIdeal.S100000x80 .f32) (T : Vec Ideal KernelIdeal.S100000 .i32) (Y : FVec Ideal KernelIdeal.S100000 .f32)

/-- Under the precondition every logit is at least the clamp. -/
theorem unclamped (h : Pre_unclamped.fn (F := Ideal) X T Y = fun _ => 1#1) (n : Fin 100000) (k : Fin 80) :
    Ideal.ofBits .f32 0xC1F00000#32 ≤ X (ix2 n k) := by
  have e := Host.reduce_andi_all _ _ _ _ ix0 (congrFun h ix0) (ix2 n k)
  revert e
  pointwise
  exact of_bit

/-- The kernel's mean of the grid points' sums is the reference's result. -/
theorem result_eq (h : ∀ n k, Ideal.ofBits .f32 0xC1F00000#32 ≤ X (ix2 n k)) : mean (points X T Y) = ReferenceIdeal.Read.val_main_v62 (F := Ideal) X T Y := by
  funext j
  rw [mean_points, result_apply, Finset.sum_comm]
  unfold classSum
  simp only [elt_eq _ _ _ _ (h _ _)]

/-- Both programs, from memories that agree on the arguments and meet the precondition, end with the same result and their arguments kept. -/
theorem algebraic : Cert.algebraic_KernelIdeal_ReferenceIdeal_pre_unclamped := by
  intro m g m' g' hpre hagree
  refine ⟨_, KernelRun.run m g, (θ_run ReferenceIdeal.defs _ _).mono (fun _ h c => ⟨(h c).1.trans ?_, (h c).2⟩) (ReferenceIdeal.Value.run m' g')⟩
  obtain ⟨h0, h1, h2⟩ := hagree c
  rw [ReferenceIdeal.Read.val_main_v62_eq, h0, h1, h2]
  exact (result_eq _ _ _ (unclamped _ _ _ (hpre c))).symm

end Cert.Proof.Equation

end
-- ==== Proof.lean ====
module

public import proofs.«01_k».proof.Defs
public import proofs.«01_k».proof.Proof.Frames
public import proofs.«01_k».proof.Proof.Equation

@[expose] public section

noncomputable section

namespace Cert.Proof

/-- All claims: the frames of the three programs, that the idealized kernel preserves the kernel, and that it computes what the reference computes. -/
theorem claim : Cert.Claim := ⟨Cert.Kernel.Gen.facts, Cert.KernelIdeal.Gen.facts, Cert.ReferenceIdeal.Gen.facts, Cert.Pre_unclamped.Gen.facts,
  Frames.kernel, Frames.kernelIdeal, fun m ρ _ => Frames.kernelIdeal m ρ trivial, Frames.referenceIdeal, fun m ρ _ => Frames.referenceIdeal m ρ trivial, trivial, Equation.algebraic⟩

end Cert.Proof

end
